-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S256x256, .f32⟩
  | .local _ .vmem, ⟨1, _⟩ => ⟨S512x256, .f32⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v17 : BitVec 32 := Scalar.muli v5 c256_i32
  let c0_i32_12 : BitVec 32 := 0#32
  ![v17.toNat, 0]
def k0_dev2 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v18 : BitVec 32 := Scalar.muli v2 c8_i32_8
  let v19 : BitVec 32 := Scalar.addi c0_i32_9 v18
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v20 : BitVec 32 := Scalar.muli v9 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v17 : BitVec 32 := Scalar.muli v5 c256_i32
  let v27 : Index := Scalar.indexCast v17
  let c0_14 : Index := 0#32
  ![v27.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Halves.lean ====
/-
# Who exchanges with whom, and what the two halves of a result hold

The mesh is 2 x 2 x 4. A device exchanges with the one that differs from it in the `y` coordinate
alone (`mate`). A device's result has 512 rows: it copies its own 256 rows into its half of both its
own and its mate's result, the half its `y` coordinate names (`slot`). This module has the
arithmetic of that: the two halves are disjoint and make up the whole, a block written into a half
is read off row by row, and the contents `gathered` both devices end with.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL.Sem

variable {F : FTy → Type} [FloatOps F]

/-! ## The mate -/

/-- A device's coordinate on the mesh's `y` axis. -/
def yOf (c : Dev nD) : Nat := c.val / 4 % 2

/-- The device whose `y` coordinate is the other one, the remaining coordinates the same. -/
def mate (c : Dev nD) : Dev nD := ⟨k0_dev1 c, k0_dev1_lt c⟩

/-- The mate's number. -/
theorem mate_val (c : Dev nD) : (mate c).val = (8 * (c.val / 8) + c.val % 4 + 4) - 4 * (c.val / 4 % 2) :=
  k0_dev1_eq c

/-- The mate's mate is the device itself. -/
theorem mate_mate (c : Dev nD) : mate (mate c) = c := by
  refine Fin.ext ?_
  rw [mate_val, mate_val]
  omega

/-- The mate's `y` coordinate is the other one of the two. -/
theorem yOf_mate (c : Dev nD) : yOf (mate c) = 1 - yOf c := by
  unfold yOf
  rw [mate_val]
  omega

/-- There are two `y` coordinates. -/
theorem yOf_lt (c : Dev nD) : yOf c < 2 := Nat.mod_lt _ (by decide)

/-- The device the signal goes to is the mate, by definition. -/
theorem dev1_mate (c : Dev nD) : (⟨k0_dev1 c, k0_dev1_lt c⟩ : Dev nD) = mate c := rfl

/-- The device the copy goes to is the mate too. -/
theorem dev2_mate (c : Dev nD) : (⟨k0_dev2 c, k0_dev2_lt c⟩ : Dev nD) = mate c :=
  Fin.ext ((k0_dev2_eq c).trans (k0_dev1_eq c).symm)

/-- Pairing off the devices, as a permutation of the mesh. -/
def pairing : Dev nD ≃ Dev nD := ⟨mate, mate, mate_mate, mate_mate⟩

/-! ## The memrefs -/

/-- The staged argument: the device's own 256 rows. -/
abbrev xM : Memref sig .tc .vmem S256x256 .f32 := Memref.whole cc0_stg0_0
/-- The staged result: all 512 rows. -/
abbrev oM : Memref sig .tc .vmem S512x256 .f32 := Memref.whole cc0_stg1_0

/-- The 256 rows of a result that device `c` supplies. -/
abbrev rowsOf (c : Dev nD) : Rect S512x256 :=
  Rect.unit (s := S512x256) (k0_off1 c) S256x256.size (k0_off1_inb c)

/-- Those rows of the staged result, as a memref of their own. -/
abbrev slot (c : Dev nD) : Memref sig .tc .vmem S256x256 .f32 := oM.slice (rowsOf c) (fun _ => rfl)

/-- The elements of the staged result that device `c` supplies. -/
abbrev half (c : Dev nD) : Finset (cc0_stg1_0 : Ref sig .tc).ty.Idx := (slot c).view.set

/-- The store's rows are the copy's. -/
theorem off2_off1 (c : Dev nD) : k0_off2 c = k0_off1 c := (k0_off2_eq c).trans (k0_off1_eq c).symm

/-- The first row that device `c` supplies. -/
theorem off1_row (c : Dev nD) : k0_off1 c (0 : Fin 2) = 256 * yOf c := by rw [k0_off1_eq]; rfl
/-- Whole rows are supplied. -/
theorem off1_col (c : Dev nD) : k0_off1 c (1 : Fin 2) = 0 := by rw [k0_off1_eq]; rfl

/-- An element lies in the half that device `c` supplies when its row does. -/
theorem mem_half (c : Dev nD) (i : S512x256.Idx) : i ∈ half c ↔ (i (0 : Fin 2)).val / 256 = yOf c := by
  refine ValueKit.mem_set_slice_whole_iff cc0_stg1_0 (rowsOf c) i ?_
  refine Rect.mem_set_unit.trans (Fin.forall_fin_two.trans ?_)
  rw [off1_row, off1_col]
  have h0 : S256x256.size (0 : Fin 2) = 256 := rfl
  have h1 : S256x256.size (1 : Fin 2) = 256 := rfl
  have hi : (i (1 : Fin 2)).val < 256 := (i (1 : Fin 2)).isLt
  rw [h0, h1]
  omega

/-- An element not in the half a device supplies is in the half its mate supplies. -/
theorem mem_half_mate (c : Dev nD) (i : S512x256.Idx) : i ∈ half (mate c) ↔ i ∉ half c := by
  rw [mem_half, mem_half, yOf_mate]
  have hy := yOf_lt c
  have hi : (i (0 : Fin 2)).val < 512 := (i (0 : Fin 2)).isLt
  omega

/-- The two halves share no element. -/
theorem half_disjoint (c : Dev nD) : Disjoint (half c) (half (mate c)) :=
  Finset.disjoint_left.mpr fun i h h' => (mem_half_mate c i).mp h' h

/-- The two halves make up the whole result. -/
theorem half_union (c : Dev nD) : half c ∪ half (mate c) = Finset.univ :=
  Finset.eq_univ_of_forall fun i =>
    Finset.mem_union.mpr ((em (i ∈ half c)).imp_right (mem_half_mate c i).mpr)

/-! ## Contents -/

variable (m : (ℓ : Loc nD τ sig) → Buf (Elt F) ℓ) (ρ : Dev nD → PrngReg)

/-- The memory at launch: the given contents, every counter at zero, the given generator registers. -/
def start₀ : MemSt nD τ sig (Elt F) := ⟨m, fun _ => 0, ρ⟩

/-- What device `c`'s staged argument holds: its own 256 rows. -/
def own (c : Dev nD) : (cc0_stg0_0 : Ref sig .tc).ty.Contents (Elt F) :=
  (win0_0.blk (0 : Fin 1)).view.read (Elt F) ((start₀ m ρ).mem ((c : Thread nD τ).loc main_arg0))

/-- Where an element of a result sits in the block that supplies it. -/
def within (i : S512x256.Idx) : S256x256.Idx := fun
  | ⟨0, _⟩ => (⟨(i (0 : Fin 2)).val % 256, Nat.mod_lt _ (by decide)⟩ : Fin 256)
  | ⟨1, _⟩ => (⟨(i (1 : Fin 2)).val, (i (1 : Fin 2)).isLt⟩ : Fin 256)

/-- The result on device `c`: the rows of its half are its own, those of the other its mate's. -/
def gathered (c : Dev nD) : (cc0_stg1_0 : Ref sig .tc).ty.Contents (Elt F) := fun i : S512x256.Idx =>
  if (i (0 : Fin 2)).val / 256 = yOf c then own m ρ c (within i) else own m ρ (mate c) (within i)

omit [FloatOps F] in
/-- On the half a device supplies, its result holds its own rows. -/
theorem gathered_own (c : Dev nD) (i : S512x256.Idx) (hi : i ∈ half c) :
    gathered m ρ c i = own m ρ c (within i) := if_pos ((mem_half c i).mp hi)

omit [FloatOps F] in
/-- On the half its mate supplies, a device's result holds the mate's rows. -/
theorem gathered_mate (c : Dev nD) (i : S512x256.Idx) (hi : i ∈ half (mate c)) :
    gathered m ρ c i = own m ρ (mate c) (within i) :=
  if_neg fun h => (mem_half_mate c i).mp hi ((mem_half c i).mpr h)

/-- An index of a block, placed in the half of the device that supplies it, is found there again. -/
theorem within_emb (c : Dev nD) (j : S256x256.Idx) : within ((slot c).view.emb j) = j := by
  have h0 := ValueKit.view_emb_slice_whole_unit_val cc0_stg1_0 (k0_off1 c) S256x256.size (k0_off1_inb c) j (0 : Fin 2)
  have h1 := ValueKit.view_emb_slice_whole_unit_val cc0_stg1_0 (k0_off1 c) S256x256.size (k0_off1_inb c) j (1 : Fin 2)
  rw [off1_row] at h0
  rw [off1_col] at h1
  have hj : (j (0 : Fin 2)).val < 256 := (j (0 : Fin 2)).isLt
  funext a
  match a with
  | ⟨0, _⟩ =>
    refine Fin.ext ?_
    show ((slot c).view.emb j (0 : Fin 2)).val % 256 = (j (0 : Fin 2)).val
    refine (congrArg (· % 256) h0).trans ?_
    show (256 * yOf c + (j (0 : Fin 2)).val) % 256 = (j (0 : Fin 2)).val
    omega
  | ⟨1, _⟩ =>
    refine Fin.ext ?_
    show ((slot c).view.emb j (1 : Fin 2)).val = (j (1 : Fin 2)).val
    refine h1.trans ?_
    exact Nat.zero_add _

omit [FloatOps F] in
/-- A block written into a half, read at an element of the half. -/
theorem write_slot (c : Dev nD) (f : (cc0_stg1_0 : Ref sig .tc).ty.Contents (Elt F)) (w : S256x256.Idx → Elt F .f32)
    (i : S512x256.Idx) (hi : i ∈ half c) : (slot c).view.write (Elt F) f w Finset.univ i = w (within i) := by
  obtain ⟨j, -, rfl⟩ := Finset.mem_map.mp hi
  rw [within_emb]
  exact View.write_emb_of_mem (v := (slot c).view) (Val := Elt F) f w (Finset.mem_univ j)

/-- What the kernel stores is what it loaded. -/
theorem pay1_eq (v : Vec F S256x256 .f32) : k0_pay1 v = v := by
  unfold k0_pay1
  exact shapeCast_self v _

/-- The credit of a copy of one block. -/
abbrev N : ℕ := (xM : Memref sig .tc .vmem S256x256 .f32).view.dmaCredit

/-- A copy of one block credits something. -/
theorem N_pos : 0 < N := View.dmaCredit_pos _ (by decide)

/-- A block in its half of the result credits as much as the staged argument. -/
theorem slot_credit (c : Dev nD) : (slot c).view.dmaCredit = N := rfl

end Cert.KernelIdeal.Gather

end
-- ==== Proof.KernelIdeal.Exchange.lean ====
/-
# The exchange between a device and its mate

Each device has three semaphores that the exchange uses, each raised once. Its barrier semaphore is
raised by its mate: with the one unit comes the half of the mate's result that this device is to
fill. Its receive semaphore is raised by the mate's copy: with the credit comes the filled half of
this device's own result. Its send semaphore is raised by its own copy: with the credit comes the
share of the staged argument that the copy read through. The staged argument is held in two shares,
since the kernel reads it while the copy is still on its way.
-/
module

public import proofs.«01_k».proof.Proof.KernelIdeal.Halves

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The ghost state of the exchange: rounds over semaphore cells, one duty a round. -/
abbrev UX : Type := URounds (GSem nD τ sig) Unit
/-- The pipeline's ghost state beside the exchange's. -/
abbrev UU : Type := UR sig nD τ × UX

local notation "𝕄" => MT nD τ sig Unit (Elt F) ℕ UU ℕ

/-- Where the pipeline's ghost state sits. -/
abbrev EP : Emb (UR sig nD τ) (MT nD τ sig Unit (Elt F) ℕ UU ℕ) := embL
/-- Where the exchange's ghost state sits. -/
abbrev EX : Emb UX (MT nD τ sig Unit (Elt F) ℕ UU ℕ) := embR

variable (m : (ℓ : Loc nD τ sig) → Buf (Elt F) ℓ) (ρ : Dev nD → PrngReg)

/-! ## The cells -/

/-- The barrier semaphore. -/
abbrev barS : Sem sig := (SemArray.scalar (sig.barrier 0 rfl) : Sems sig S_).sem
/-- The semaphore a device's own copy raises once it has read its source. -/
abbrev sendS : DmaSem sig := (cc0_scratch0 : DmaSems sig S_).sem
/-- The semaphore the mate's copy raises once it has landed. -/
abbrev recvS : DmaSem sig := (cc0_scratch1 : DmaSems sig S_).sem

/-- The three semaphores: barrier, send, receive. -/
abbrev semAt : Fin 3 → SemLoc sig := fun | 0 => .reg barS | 1 => .dma sendS | 2 => .dma recvS
/-- Device `c`'s `k`-th cell. -/
abbrev cell (c : Dev nD) (k : Fin 3) : GSem nD τ sig := ((c : Thread nD τ), semAt k)

/-- The three semaphores differ. -/
theorem semAt_injective : Function.Injective semAt := by
  intro j k h
  fin_cases j <;> fin_cases k <;> first | rfl | exact absurd h (by decide)

/-! ## What changes hands -/

/-- Device `d`'s result, on the half that device `s` supplies, holds `f`. -/
def halfPts (d s : Dev nD) (f : (cc0_stg1_0 : Ref sig .tc).ty.Contents (Elt F)) : sProp 𝕄 :=
  (slot s).view.loc (d : Thread nD τ) ↦[half s]{fullShare} f

/-- A share of device `c`'s staged argument, which holds its own rows. -/
def xPts (c : Dev nD) (q : PosShare TreeShare) : sProp 𝕄 :=
  (xM : Memref sig .tc .vmem S256x256 .f32).view.loc (c : Thread nD τ)
    ↦[(xM : Memref sig .tc .vmem S256x256 .f32).view.set]{q} own m ρ c

instance halfPts_storable (d s : Dev nD) (f : (cc0_stg1_0 : Ref sig .tc).ty.Contents (Elt F)) :
    BI.Storable (upEmb : UEmb _ 𝕄) (halfPts d s f) := by unfold halfPts; infer_instance
instance xPts_storable (c : Dev nD) (q : PosShare TreeShare) :
    BI.Storable (upEmb : UEmb _ 𝕄) (xPts m ρ c q) := by unfold xPts; infer_instance

/-- The whole staged argument is its two shares. -/
theorem xPts_shares (c : Dev nD) :
    (((c : Thread nD τ).loc cc0_stg0_0) ↦{fullShare} own m ρ c : sProp 𝕄)
      ⊣⊢ iprop(xPts m ρ c fullShare.left ∗ xPts m ρ c fullShare.right) := by
  unfold xPts
  rw [View.set_whole]
  exact pointsTo_share (PosShare.mem_left_op_right fullShare)

/-- The whole result is its two halves. -/
theorem halves (c : Dev nD) (f : (cc0_stg1_0 : Ref sig .tc).ty.Contents (Elt F)) :
    (((c : Thread nD τ).loc cc0_stg1_0) ↦{fullShare} f : sProp 𝕄)
      ⊣⊢ iprop(halfPts c c f ∗ halfPts c (mate c) f) := by
  have h := pointsTo_union (nD := nD) (τ := τ) (sig := sig) (Ix := Unit) (Val := Elt F) (Name := ℕ) (U := UU) (Lvl := ℕ)
    (ℓ := (c : Thread nD τ).loc cc0_stg1_0) (q := fullShare) (f := f) (half_disjoint c)
  rw [half_union] at h
  exact h

/-- A half is all that matters of its contents. -/
theorem halfPts_congr (d s : Dev nD) {f g : (cc0_stg1_0 : Ref sig .tc).ty.Contents (Elt F)}
    (h : ∀ i ∈ half s, f i = g i) : (halfPts d s f : sProp 𝕄) = halfPts d s g := pointsTo_congr h

/-- The copy from `c` leaves its mate's result as it should be, on the half `c` supplies. -/
theorem halfPts_landed (c : Dev nD) (f : (cc0_stg1_0 : Ref sig .tc).ty.Contents (Elt F)) :
    (halfPts (mate c) c ((slot c).view.write (Elt F) f (own m ρ c) Finset.univ) : sProp 𝕄)
      = halfPts (mate c) c (gathered m ρ (mate c)) := by
  refine halfPts_congr _ _ fun i hi => ?_
  have hg := gathered_mate m ρ (mate c) i (by rw [mate_mate]; exact hi)
  rw [mate_mate] at hg
  exact (write_slot c f (own m ρ c) i hi).trans hg.symm

/-- The store leaves the device's own result as it should be, on the half it supplies. -/
theorem halfPts_stored (c : Dev nD) (f : (cc0_stg1_0 : Ref sig .tc).ty.Contents (Elt F)) :
    (halfPts c c ((slot c).view.write (Elt F) f (own m ρ c) Finset.univ) : sProp 𝕄)
      = halfPts c c (gathered m ρ c) :=
  halfPts_congr _ _ fun i hi => (write_slot c f (own m ρ c) i hi).trans (gathered_own m ρ c i hi).symm

/-! ## The schedule -/

/-- With the barrier's unit, a device gets the half of its mate's result that it is to fill, and that
    the mate's receive cell is at its start. -/
def barPay (c : Dev nD) : sProp 𝕄 :=
  iprop((∃ f, halfPts (mate c) c f) ∗ reached EX (cell (mate c) 2) 0)
/-- With its own copy's credit, the share of its argument that the copy read through. -/
def sendPay (c : Dev nD) : sProp 𝕄 := xPts m ρ c fullShare.left
/-- With the mate's copy's credit, the half of its result that the mate fills. -/
def recvPay (c : Dev nD) : sProp 𝕄 := halfPts c (mate c) (gathered m ρ c)

/-- One round of one duty on each of a TensorCore's three cells. -/
def plan : Rounds.Schedule (GSem nD τ sig) Unit 𝕄 where
  duties g r := if r = 0 ∧ g.1.2 = .tc ∧ ∃ k, g.2 = semAt k then {()} else ∅
  unitless _ := False
  amount g _ _ := if g.2 = semAt 0 then 1 else N
  payload g _ _ :=
    if g.2 = semAt 0 then barPay g.1.1 else if g.2 = semAt 1 then sendPay m ρ g.1.1 else recvPay m ρ g.1.1
  amount_pos g _ _ _ := by
    split
    · exact Nat.one_pos
    · exact N_pos

instance plan_storable (g : GSem nD τ sig) (r : ℕ) (d : Unit) :
    BI.Storable (upEmb : UEmb _ 𝕄) ((plan (F := F) m ρ).payload g r d) := by
  show BI.Storable upEmb
    (if g.2 = semAt 0 then barPay g.1.1 else if g.2 = semAt 1 then sendPay m ρ g.1.1 else recvPay m ρ g.1.1)
  unfold barPay sendPay recvPay
  (repeat' split) <;> infer_instance

section Plan
variable (c : Dev nD)

/-- Each cell has its one duty at the start. -/
theorem plan_duties (k : Fin 3) : (plan (F := F) m ρ).duties (cell c k) 0 = {()} :=
  if_pos ⟨rfl, rfl, k, rfl⟩
/-- And none later. -/
theorem plan_later (g : GSem nD τ sig) : ∀ r, 1 ≤ r → (plan (F := F) m ρ).duties g r = ∅ :=
  fun r hr => if_neg fun h => by omega
/-- The one duty is among a cell's duties. -/
theorem plan_mem (k : Fin 3) : () ∈ (plan (F := F) m ρ).duties (cell c k) 0 := by
  rw [plan_duties]; exact Finset.mem_singleton_self _

/-- Send and receive semaphores are no barrier semaphores. -/
theorem semAt_ne {j k : Fin 3} (h : j ≠ k) : semAt j ≠ semAt k := fun e => h (semAt_injective e)

/-- The barrier's amount. -/
theorem amount_bar : (plan (F := F) m ρ).amount (cell c 0) 0 () = 1 := by
  dsimp only [plan]; exact if_pos rfl
/-- The send cell's amount. -/
theorem amount_send : (plan (F := F) m ρ).amount (cell c 1) 0 () = N := by
  dsimp only [plan]; exact if_neg (semAt_ne (j := 1) (k := 0) (by decide))
/-- The receive cell's amount. -/
theorem amount_recv : (plan (F := F) m ρ).amount (cell c 2) 0 () = N := by
  dsimp only [plan]; exact if_neg (semAt_ne (j := 2) (k := 0) (by decide))

/-- A cell expects in all what its one duty pays. -/
theorem plan_expect (k : Fin 3) :
    (plan (F := F) m ρ).expect (cell c k) 0 = (plan (F := F) m ρ).amount (cell c k) 0 () := by
  unfold Schedule.expect Schedule.amountOf
  rw [plan_duties, Finset.sum_singleton]

/-- What the barrier's unit hands over. -/
theorem payload_bar : (plan (F := F) m ρ).payload (cell c 0) 0 () = barPay c := by
  dsimp only [plan]; exact if_pos rfl
/-- What the own copy's credit hands over. -/
theorem payload_send : (plan (F := F) m ρ).payload (cell c 1) 0 () = sendPay m ρ c := by
  dsimp only [plan]
  rw [if_neg (semAt_ne (j := 1) (k := 0) (by decide)), if_pos rfl]
/-- What the mate's copy's credit hands over. -/
theorem payload_recv : (plan (F := F) m ρ).payload (cell c 2) 0 () = recvPay m ρ c := by
  dsimp only [plan]
  rw [if_neg (semAt_ne (j := 2) (k := 0) (by decide)), if_neg (semAt_ne (j := 2) (k := 1) (by decide))]

/-- All that a cell hands over in its round is its one duty's payload. -/
theorem plan_rest (k : Fin 3) :
    bigSep ((plan (F := F) m ρ).duties (cell c k) 0 \ ∅) (fun d => (plan (F := F) m ρ).payload (cell c k) 0 d)
      = (plan (F := F) m ρ).payload (cell c k) 0 () := by
  rw [Finset.sdiff_empty, plan_duties, bigSep_singleton]

end Plan

/-! ## What each device owes, and in which order it may wait -/

/-- At launch device `c` owes its mate the credit of its copy and one unit on the barrier. -/
def owed₀ (c : Dev nD) : CellTallies nD τ sig Unit := tallyAt (cell (mate c) 2) () N + tallyAt (cell (mate c) 0) () 1

/-- The cells that have a level: the TensorCores'. -/
def lvls (g : GSem nD τ sig) : Finset Unit := if g.1.2 = .tc then {()} else ∅
/-- The levels: barrier cells at one, receive cells at two, all others at zero. -/
def lvl (g : GSem nD τ sig) (_ : Unit) : ℕ := if g.2 = semAt 0 then 1 else if g.2 = semAt 2 then 2 else 0

/-- No other thread's cell has a level. -/
theorem lvls_other (g : GSem nD τ sig) (h : g.1.2 ≠ .tc) : lvls g = ∅ := if_neg h
/-- Every TensorCore's cell has one. -/
theorem lvls_tc (c : Dev nD) (sm : SemLoc sig) : () ∈ lvls ((c : Thread nD τ), sm) := by
  rw [show lvls ((c : Thread nD τ), sm) = {()} from if_pos rfl]; exact Finset.mem_singleton_self _

/-- A barrier cell's level. -/
theorem lvl_bar (c : Dev nD) (u : Unit) : lvl (cell c 0) u = 1 := if_pos rfl
/-- A receive cell's level. -/
theorem lvl_recv (c : Dev nD) (u : Unit) : lvl (cell c 2) u = 2 := by
  dsimp only [lvl]
  rw [if_neg (semAt_ne (j := 2) (k := 0) (by decide)), if_pos rfl]

/-- A positive tally at one cell is a tally at that cell. -/
theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

/-- What a device owes at launch, it owes its mate's receive or barrier cell. -/
theorem owed₀_pos {c : Dev nD} {g : GSem nD τ sig} {u : Unit} (h : 0 < owed₀ c g u) :
    g = cell (mate c) 2 ∨ g = cell (mate c) 0 := by
  unfold owed₀ at h
  rw [Pi.add_apply, Finsupp.add_apply] at h
  rcases Nat.eq_zero_or_pos (tallyAt (cell (mate c) 2) () N g u) with h0 | h0
  · rw [h0, Nat.zero_add] at h; exact Or.inr (tallyAt_pos h)
  · exact Or.inl (tallyAt_pos h0)

/-- A device may wait for its staging copies whatever it still owes. -/
theorem mayWait_stage (c : Dev nD) (q : DmaSem sig) (hq : SemLoc.dma q ≠ semAt 2) (O : CellTallies nD τ sig Unit)
    (hO : O = owed₀ c ∨ O = 0) : (levAts lvls lvl : sProp 𝕄) ⊢ MayWait (c : Thread nD τ) (.dma q) () O := by
  rcases hO with rfl | rfl
  · refine MayOwe.of_cut (L := lvls) (lev := lvl) 0
      (fun p hp => by rw [Finset.mem_singleton.mp hp]; exact lvls_tc _ _)
      (fun g u hg => by rcases owed₀_pos hg with rfl | rfl <;> exact lvls_tc _ _)
      (fun p hp => by
        rw [Finset.mem_singleton.mp hp]
        exact ((if_neg (fun h => by cases h)).trans (if_neg hq)).le)
      (fun g u hg => by
        rcases owed₀_pos hg with rfl | rfl
        · rw [lvl_recv]; decide
        · rw [lvl_bar]; decide)
  · rw [MayWait_zero]; iintro -; iempintro

/-- A device may wait at its barrier while it owes the copy's credit. -/
theorem mayWait_bar (c : Dev nD) :
    (levAts lvls lvl : sProp 𝕄) ⊢ MayWait (c : Thread nD τ) (semAt 0) () (tallyAt (cell (mate c) 2) () N) :=
  MayOwe.of_cut (L := lvls) (lev := lvl) 1
    (fun p hp => by rw [Finset.mem_singleton.mp hp]; exact lvls_tc _ _)
    (fun g u hg => by rw [tallyAt_pos hg]; exact lvls_tc _ _)
    (fun p hp => by rw [Finset.mem_singleton.mp hp]; exact (lvl_bar c _).le)
    (fun g u hg => by rw [tallyAt_pos hg, lvl_recv]; decide)

/-! ## The pipeline's data -/

/-- The cells' invariants that device `c` uses: its own three, its mate's barrier and receive cells. -/
def invs (K : Dev nD × Fin 3 → ℕ) (c : Dev nD) : sProp 𝕄 :=
  iprop(cellInv EX (plan m ρ) (K (c, 0)) (cell c 0) ∗ cellInv EX (plan m ρ) (K (c, 1)) (cell c 1)
    ∗ cellInv EX (plan m ρ) (K (c, 2)) (cell c 2)
    ∗ cellInv EX (plan m ρ) (K (mate c, 0)) (cell (mate c) 0) ∗ cellInv EX (plan m ρ) (K (mate c, 2)) (cell (mate c) 2))

instance invs_persistent (K : Dev nD × Fin 3 → ℕ) (c : Dev nD) : BI.Persistent (invs m ρ K c) := by
  unfold invs; infer_instance

/-- That the cells device `c` pays on, and its own receive cell, are at their start. -/
def marks (c : Dev nD) : sProp 𝕄 :=
  iprop(reached EX (cell (mate c) 0) 0 ∗ reached EX (cell (mate c) 2) 0 ∗ reached EX (cell c 1) 0 ∗ reached EX (cell c 2) 0)

instance marks_persistent (c : Dev nD) : BI.Persistent (marks (F := F) c) := by unfold marks; infer_instance

/-- Device `c`'s positions on its own cells. -/
def poss (c : Dev nD) : sProp 𝕄 :=
  iprop(atPos EX (cell c 0) 0 ∅ 0 ∗ atPos EX (cell c 1) 0 ∅ 0 ∗ atPos EX (cell c 2) 0 ∅ 0)

/-- The tokens of the duties device `c` pays: its mate's barrier, its mate's receive cell, its own send cell. -/
def dues (c : Dev nD) : sProp 𝕄 :=
  iprop(dutyTok EX (cell (mate c) 0) 0 () ∗ dutyTok EX (cell (mate c) 2) 0 () ∗ dutyTok EX (cell c 1) 0 ())

/-- The ghost state device `c` starts from. -/
def ghost (K : Dev nD × Fin 3 → ℕ) (c : Dev nD) : sProp 𝕄 :=
  iprop(invs m ρ K c ∗ marks c ∗ poss c ∗ dues c)

/-- Device `c`'s credits, to wait with: one unit on its barrier, the copy's credit on its receive cell. -/
def purse (c : Dev nD) : sProp 𝕄 :=
  iprop(cred (tallyAt (cell c 0) () 1) ∗ cred (tallyAt (cell c 2) () N))

/-- What device `c`'s body starts from. -/
def before (c : Dev nD) : sProp 𝕄 := iprop((∃ K, ghost m ρ K c) ∗ purse c ∗ levAts lvls lvl)
/-- What it ends with: its three counters at zero. -/
def done (c : Dev nD) : sProp 𝕄 := iprop(semVal (cell c 0) 0 ∗ semVal (cell c 1) 0 ∗ semVal (cell c 2) 0)

/-- The pipeline's data: the argument staged in, the gathered result staged out. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => own m ρ c
    | ⟨1, _⟩ => gathered m ρ c
  Φ t := match t with
    | ⟨0, _⟩ => before m ρ c
    | ⟨_ + 1, _⟩ => done c
  q _ := fullShare
  owed t := match t with
    | ⟨0, _⟩ => owed₀ c
    | ⟨_ + 1, _⟩ => 0

/-- No loop, so no variants. -/
abbrev 𝒱₀ : Variants := Variants.none

/-- The argument is fetched at the one point. -/
theorem fetch_x (t : Fin cfg0.N) : (cfg0.win (0 : Fin 2)).fetch t = true := by rw [fin_N0 t]; rfl

/-- A staging buffer held whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole memref at given contents is holding its buffer at them. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg
  simp only [Memref.view_whole, View.read_whole, View.set_whole]

end Cert.KernelIdeal.Gather

end
-- ==== Proof.KernelIdeal.Body.lean ====
/-
# One device's run of the kernel

The kernel's effects in program order: the signal to the mate, the wait for the mate's signal, the
copy started, the own rows loaded and stored while it is on its way, and the waits for it to have
been read and for the mate's to have landed. Each is a rule of the exchange (`Exchange.lean`).
-/
module

public import proofs.«01_k».proof.Proof.KernelIdeal.Exchange

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 3 → ℕ)

/-- Reading the whole staged argument reads its contents. -/
theorem read_own (f : (cc0_stg0_0 : Ref sig .tc).ty.Contents (Elt F)) :
    (xM : Memref sig .tc .vmem S256x256 .f32).view.readAt (Elt F)
      (Rect.unit (s := S256x256) ![0, 0] S256x256.size inb_S256x256_S256x256_0_0).toLoadRect f = f :=
  Memref.readAt_unit_zero (Elt F) cc0_stg0_0 (funext fun a => by fin_cases a <;> rfl) _ f

/-- A load of a device's own half, its rows spelt by any equal offsets. -/
theorem wp_load_own (c : Dev nD) {off : Fin 2 → Nat} (h : off = k0_off1 c)
    {inb : ∀ a, off a + S256x256.size a ≤ S512x256.size a}
    {hl : (oM : Memref sig .tc .vmem S512x256 .f32).view.LoadsAt (Rect.unit (s := S512x256) off S256x256.size inb).toLoadRect}
    {α : Type} {Q : α → sProp 𝕄} {k : (S256x256.Idx → Elt F .f32) → Prog (TpuEff nD τ sig (Elt F) Λ₀ .tc) α}
    (f : (cc0_stg1_0 : Ref sig .tc).ty.Contents (Elt F)) :
    (halfPts c c f)
      ⊢ iprop((halfPts c c f -∗ wp frame (wpE (defs₀ (F := F)) 𝒱₀ (c : Thread nD τ) none) Set.univ (k ((slot c).view.read (Elt F) f)) Q)
          -∗ wp frame (wpE (defs₀ (F := F)) 𝒱₀ (c : Thread nD τ) none) Set.univ
              (.op (.load oM (Rect.unit (s := S512x256) off S256x256.size inb).toLoadRect hl) k) Q) := by
  subst h
  unfold halfPts
  exact wp_load_rect 𝒱₀ (c : Thread nD τ) none Set.univ (m := oM) (r := rowsOf c) (S := half c) (f := f) (Finset.Subset.refl _)

/-- A store of a device's own half, its rows spelt by any equal offsets. -/
theorem wp_store_own (c : Dev nD) {off : Fin 2 → Nat} (h : off = k0_off1 c)
    {inb : ∀ a, off a + S256x256.size a ≤ S512x256.size a} {w : S256x256.Idx → Elt F .f32}
    {hx : ((oM : Memref sig .tc .vmem S512x256 .f32).access (Rect.unit (s := S512x256) off S256x256.size inb)).Stores Finset.univ}
    {hm : (Finset.univ : Finset (Rect.unit (s := S512x256) off S256x256.size inb).shape.Idx) = Finset.univ
      ∨ ∀ a, (Rect.unit (s := S512x256) off S256x256.size inb).stride a = 1}
    {α : Type} {Q : α → sProp 𝕄} {k : PUnit → Prog (TpuEff nD τ sig (Elt F) Λ₀ .tc) α}
    (f : (cc0_stg1_0 : Ref sig .tc).ty.Contents (Elt F)) :
    (halfPts c c f)
      ⊢ iprop((halfPts c c ((slot c).view.write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S512x256) off S256x256.size inb) w Finset.univ hx hm) k) Q) := by
  subst h
  unfold halfPts
  exact wp_store 𝒱₀ (c : Thread nD τ) none Set.univ (m := oM) (r := rowsOf c) (w := w) (Mk := Finset.univ) (S := half c) (f := f)
    (Finset.Subset.refl _)

/-- The copy to the mate: device `c` gives up the left share of its argument and the half of its mate's
    result that it was handed, and owes the mate nothing more. -/
theorem wp_copy_mate (c n : Dev nD) (hn : n = mate c) {hsc : (slot c : Memref sig (Dev.tc n : Thread nD τ).2.kind .vmem S256x256 .f32).view.ref.isScScratch = false}
    {hsrc : (xM : Memref sig .tc .vmem S256x256 .f32).view.WordExact} {hdst : (slot c : Memref sig .tc .vmem S256x256 .f32).view.WordExact}
    {hsem : DmaTarget.Typed .vmem (.dma recvS) (.remote (Dev.tc n : Thread nD τ) (slot c : Memref sig .tc .vmem S256x256 .f32) (.dma sendS) hsc)}
    {α : Type} {Q : α → sProp 𝕄} {k : PUnit → Prog (TpuEff nD τ sig (Elt F) Λ₀ .tc) α}
    (f : (cc0_stg1_0 : Ref sig .tc).ty.Contents (Elt F)) (W : Waits sig Unit) :
    iprop(cellInv EX (plan m ρ) (K (c, 1)) (cell c 1) ∗ cellInv EX (plan m ρ) (K (mate c, 2)) (cell (mate c) 2)
        ∗ xPts m ρ c fullShare.left ∗ halfPts (mate c) c f
        ∗ owes (c : Thread nD τ) (tallyAt (cell (mate c) 2) () N) W
        ∗ dutyTok EX (cell c 1) 0 () ∗ reached EX (cell c 1) 0
        ∗ dutyTok EX (cell (mate c) 2) 0 () ∗ reached EX (cell (mate c) 2) 0)
      ⊢ iprop(((cred (tallyAt (cell c 1) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (slot c) (.dma sendS) hsc) (.dma recvS) hsrc hdst hsem) k) Q) := by
  subst hn
  unfold xPts halfPts
  have h1 : (xPts m ρ c fullShare.left : sProp 𝕄) ⊢ (plan m ρ).payload (cell c 1) 0 () := by
    rw [payload_send]; exact BI.Entails.refl _
  have h2 : (halfPts (mate c) c ((slot c).view.write (Elt F) f ((xM : Memref sig .tc .vmem S256x256 .f32).view.read (Elt F) (own m ρ c)) Finset.univ) : sProp 𝕄)
      ⊢ (plan m ρ).payload (cell (mate c) 2) 0 () := by
    rw [payload_recv, recvPay, mate_mate,
      show (xM : Memref sig .tc .vmem S256x256 .f32).view.read (Elt F) (own m ρ c) = own m ρ c from View.read_whole _ _, halfPts_landed]
  unfold halfPts at h2
  unfold xPts at h1
  exact Rounds.wp_send_pointsTo (Γ := PendingWaitsCtx.empty) (defs := defs₀ (F := F)) 𝒱₀ EX (plan m ρ) (c : Thread nD τ) none
    (Q := Q) (k := k) (c' := (mate c : Thread nD τ)) (src := xM) (dst := slot c) (sS := .dma sendS) (sem := .dma recvS)
    (hsc := hsc) (hsrc := hsrc) (hdst := hdst) (hsem := hsem) (κ₁ := K (c, 1)) (κ₂ := K (mate c, 2))
    (r₁ := 0) (r₂ := 0) (d₁ := ()) (d₂ := ()) (fd := f) (q := fullShare.left) (fs := own m ρ c)
    (plan_mem m ρ c 1) (plan_mem m ρ (mate c) 2) () () N (slot_credit c) (amount_send m ρ c) (amount_recv m ρ (mate c))
    0 (zero_add _).symm (W := W) h1 h2 (Es := Set.univ)

/-- What the body is run from, at the cells' names. -/
def bodyPre (c : Dev nD) : sProp 𝕄 :=
  iprop((ghost m ρ K c ∗ purse c ∗ levAts lvls lvl)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the body ends with. -/
def bodyPost (c : Dev nD) : sProp 𝕄 :=
  iprop(done c ∗ (dats m ρ 0 c).owesAt () t0_0.succ ∗ stg c cc0_stg0_0 (own m ρ c) ∗ stg c cc0_stg1_0 (gathered m ρ c))

set_option maxHeartbeats 800000 in
/-- One device's run of the kernel: the signal to the mate, the wait for the mate's, the copy started,
    the own rows stored meanwhile, and the two waits that end the copy each way. -/
theorem body_run (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs marks poss dues purse
  iintro ⟨⟨⟨⟨⟨#HIb, #HIs, #HIr, #HIbM, #HIrM⟩, ⟨#HmbM, #HmrM, #Hms, #Hmr⟩, ⟨Hab, Has, Har⟩, HtbM, HtrM, Hts⟩, ⟨Hcb, Hcr⟩, #Hlev⟩,
    Ho, ⟨%d0, %g0, %hg0, Hx⟩, ⟨%d1, %g1, %hg1, Hout⟩⟩, Hk⟩
  have hx : g0 = own m ρ c := by rw [hg0]; unfold Dat.before; rw [if_pos (fetch_x t0_0)]; rfl
  subst hx
  unfold Dat.owesAt Pipeline.owesWithin
  icases Ho with ⟨%W, %hW, HO⟩
  rw [show (dats m ρ 0 c).owed t0_0.castSucc = owed₀ c from rfl]
  simp only [dev1_mate c]
  ihave Hout := (halves c g1).1 $$ Hout
  icases Hout with ⟨Hown, Hother⟩
  ihave Hx := (xPts_shares m ρ c).1 $$ Hx
  icases Hx with ⟨HxL, HxR⟩
  -- the signal to the mate, with the half of this device's result that the mate is to fill
  unfold owed₀
  iapply (Rounds.wp_signal 𝒱₀ EX (plan m ρ) (c : Thread nD τ) none (dst := (mate c : Thread nD τ)) (κ := K (mate c, 0))
      (d := ()) (plan_mem m ρ (mate c) 0) ((amount_bar m ρ (mate c)).trans (by decide)) () (tallyAt (cell (mate c) 2) () N) rfl)
    $$ [HO HtbM Hother]
  · isplitr; · iexact HIbM
    isplitl [HO]; · iexact HO
    isplitl [HtbM]; · iexact HtbM
    isplitl [Hother]
    · rw [payload_bar]; unfold barPay; rw [mate_mate]
      isplitl [Hother]; · iexists g1; iexact Hother
      iexact Hmr
    · iexact HmbM
  iintro HO
  -- the wait for the mate's signal
  iapply (Rounds.wp_wait_rest_token 𝒱₀ EX (plan m ρ) (c : Thread nD τ) none (κ := K (c, 0))
      (wpE_semWait_eq 𝒱₀ (c : Thread nD τ) none Set.univ) (Set.mem_univ _) () (O := tallyAt (cell (mate c) 2) () N) (W := W)
      (R := 0) (m := 0) (T := ∅) ((by decide : _ = 1).trans ((plan_expect m ρ c 0).trans (amount_bar m ρ c)).symm)) $$ [Hcb HO Hab]
  · isplitr; · iexact HIb
    isplitl [Hcb]; · iexact Hcb
    isplitl [HO]; · iexact HO
    isplitr; · iapply (mayWait_bar c); iexact Hlev
    iexact Hab
  iintro ⟨HO, Hab, -, Hpay⟩
  ihave Hp := (Entails.of_eq ((plan_rest m ρ c 0).trans (payload_bar m ρ c))) $$ Hpay
  unfold barPay
  icases Hp with ⟨⟨%fn, Hto⟩, -⟩
  -- the copy to the mate
  iapply (wp_copy_mate m ρ K c _ (dev2_mate c) fn (insert (semAt 0, ()) W)) $$ [HxL Hto HO Hts HtrM]
  · isplitr; · iexact HIs
    isplitr; · iexact HIrM
    isplitl [HxL]; · iexact HxL
    isplitl [Hto]; · iexact Hto
    isplitl [HO]; · iexact HO
    isplitl [Hts]; · iexact Hts
    isplitr; · iexact Hms
    isplitl [HtrM]; · iexact HtrM
    iexact HmrM
  iintro ⟨Hcs, HO⟩
  -- the own rows, read through the other share and stored
  unfold xPts
  iapply (wp_load 𝒱₀ (c : Thread nD τ) none Set.univ (m := xM) (View.setOn_subset_set _ _)) $$ HxR; iintro HxR
  rw [read_own, pay1_eq]
  iapply (wp_load_own c (off2_off1 c) g1) $$ Hown; iintro Hown
  iapply (wp_store_own c (off2_off1 c) g1) $$ Hown; iintro Hown
  -- the wait for the own copy to have been read
  iapply (Rounds.wp_wait_rest_token 𝒱₀ EX (plan m ρ) (c : Thread nD τ) none (κ := K (c, 1))
      (wpE_waitDma2_eq 𝒱₀ (c : Thread nD τ) none Set.univ) (Set.mem_univ _) () (O := 0) (W := insert (semAt 0, ()) W)
      (R := 0) (m := 0) (T := ∅) ((Nat.zero_add _).trans ((plan_expect m ρ c 1).trans (amount_send m ρ c)).symm)) $$ [Hcs HO Has]
  · isplitr; · iexact HIs
    isplitl [Hcs]; · iexact Hcs
    isplitl [HO]; · iexact HO
    isplitr; · rw [MayWait_zero]; iempintro
    iexact Has
  iintro ⟨HO, Has, -, Hpay⟩
  ihave HxL := (Entails.of_eq ((plan_rest m ρ c 1).trans (payload_send m ρ c))) $$ Hpay
  -- the wait for the mate's copy to have landed
  iapply (Rounds.wp_wait_rest_token 𝒱₀ EX (plan m ρ) (c : Thread nD τ) none (κ := K (c, 2)) (k' := (slot c).view.dmaCredit)
      (wpE_waitDma2_eq 𝒱₀ (c : Thread nD τ) none Set.univ) (Set.mem_univ _) () (O := 0)
      (W := insert (semAt 1, ()) (insert (semAt 0, ()) W))
      (R := 0) (m := 0) (T := ∅) ((Nat.zero_add _).trans ((slot_credit c).trans ((plan_expect m ρ c 2).trans (amount_recv m ρ c)).symm))) $$ [Hcr HO Har]
  · isplitr; · iexact HIr
    isplitl [Hcr]; · iexact Hcr
    isplitl [HO]; · iexact HO
    isplitr; · rw [MayWait_zero]; iempintro
    iexact Har
  iintro ⟨HO, Har, -, Hpay⟩
  ihave Hother := (Entails.of_eq ((plan_rest m ρ c 2).trans (payload_recv m ρ c))) $$ Hpay
  -- the three cells close, their counters at zero
  imod (Rounds.cell_close EX (plan m ρ) (Set.mem_univ (K (c, 0))) (fun h => h) (R := 0 + 1) (plan_later m ρ (cell c 0))) $$ [Hab] with Hzb
  · isplitr; · iexact HIb
    iexact Hab
  imod (Rounds.cell_close EX (plan m ρ) (Set.mem_univ (K (c, 1))) (fun h => h) (R := 0 + 1) (plan_later m ρ (cell c 1))) $$ [Has] with Hzs
  · isplitr; · iexact HIs
    iexact Has
  imod (Rounds.cell_close EX (plan m ρ) (Set.mem_univ (K (c, 2))) (fun h => h) (R := 0 + 1) (plan_later m ρ (cell c 2))) $$ [Har] with Hzr
  · isplitr; · iexact HIr
    iexact Har
  rw [wp_ret]; imodintro
  iapply Hk
  unfold bodyPost done Dat.owesAt Pipeline.owesWithin
  rw [show (dats m ρ 0 c).owed t0_0.succ = 0 from rfl]
  isplitl [Hzb Hzs Hzr]
  · isplitl [Hzb]; · iexact Hzb
    isplitl [Hzs] <;> iassumption
  isplitl [HO]
  · iexists (insert (semAt 2, ()) (insert (semAt 1, ()) (insert (semAt 0, ()) W)))
    isplitr; · ipureintro; exact fun _ _ => Or.inl trivial
    iexact HO
  isplitl [HxL HxR]
  · iexists _; isplitr; · (ipureintro; rfl)
    iapply (xPts_shares m ρ c).2
    isplitl [HxL]; · unfold sendPay; iexact HxL
    unfold xPts; iexact HxR
  iexists _; isplitr; · (ipureintro; rfl)
  iapply (halves c (gathered m ρ c)).2
  isplitl [Hown]
  · iapply (Entails.of_eq (halfPts_stored m ρ c g1)); iexact Hown
  unfold recvPay; iexact Hother

/-- What the library asks of the body, on each device. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show iprop(before m ρ c ∗ (dats m ρ 0 c).owesAt () t0_0.castSucc
      ∗ (∃ d, stg c cc0_stg0_0 ((dats m ρ 0 c).before (0 : Fin 2) t0_0 d))
      ∗ (∃ d, stg c cc0_stg1_0 ((dats m ρ 0 c).before (1 : Fin 2) t0_0 d)))
    ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1) (fun _ => bodyPost m ρ c)
  unfold before
  iintro ⟨⟨⟨%K, Hg⟩, Hrest⟩, Hio⟩
  iapply (body_run m ρ K c fun _ => bodyPost m ρ c)
  unfold bodyPre
  isplitr []
  · isplitl [Hg Hrest]
    · isplitl [Hg] <;> iassumption
    iexact Hio
  · iintro H; iexact H

end Cert.KernelIdeal.Gather

end
-- ==== Proof.KernelIdeal.Run.lean ====
/-
# The run of all sixteen devices

From any memory with every counter at zero, the sixteen devices run the kernel and stop: each ends
with its result at `gathered`, its argument as it was and every counter at zero. The exchange's
ghost state is dealt at launch: each cell's invariant, to every device that uses the cell, and each
duty's token to the device that pays it, which for the barrier and receive cells is the mate.
-/
module

public import proofs.«01_k».proof.Proof.KernelIdeal.Body
public import Idealize.ShloMosaic.Lib.Pipeline.CollectiveSegs
public import Idealize.ShloMosaic.Lib.Pipeline.ValueKit.Geometry

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Every device's cells and duties, in one set -/

/-- The semaphores that belong to the launch: send and receive. -/
abbrev ownSem : Fin 2 → SemLoc sig := fun | 0 => semAt 1 | 1 => semAt 2

/-- They are scoped, and no staging copy uses them. -/
theorem ownSem_facts : Pipeline.OwnSemFacts cfg0.spec ownSem := by decide

/-- A cell is one device's, and one of its three. -/
theorem cell_injective : Function.Injective fun ck : Dev nD × Fin 3 => cell ck.1 ck.2 := by
  rintro ⟨c, j⟩ ⟨d, k⟩ h
  have h1 : c = d := congrArg (fun g : GSem nD τ sig => g.1.1) h
  have h2 : j = k := semAt_injective (congrArg Prod.snd h)
  rw [h1, h2]

/-- All devices' cells. -/
def cellSet : Finset (GSem nD τ sig) := Finset.univ.map ⟨_, cell_injective⟩

/-- All duties: one on each cell. -/
def dutySet : Finset (GSem nD τ sig × ℕ × Unit) :=
  Finset.univ.map ⟨fun ck : Dev nD × Fin 3 => (cell ck.1 ck.2, 0, ()), fun _ _ h => cell_injective (congrArg Prod.fst h)⟩

/-- The ghost state at launch: the pipeline's, and the exchange's. -/
def ghost₀ : UU :=
  (initOf (Pipeline.cells cfgs cellOf_inj) (Pipeline.launchToks cfgs cellOf_inj), initOf cellSet dutySet)

/-- Three conjuncts. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- Over all cells is over all devices and over each one's three. -/
theorem bigSep_cellSet (Φ : GSem nD τ sig → sProp 𝕄) :
    bigSep cellSet Φ = bigSep Finset.univ fun c : Dev nD => bigSep Finset.univ fun k : Fin 3 => Φ (cell c k) := by
  unfold cellSet; rw [bigSep_map, bigSep_univ_prod]; rfl

/-- And so over all duties. -/
theorem bigSep_dutySet : (bigSep dutySet fun x => (dutyTok EX x.1 x.2.1 x.2.2 : sProp 𝕄))
    = bigSep Finset.univ fun c : Dev nD => bigSep Finset.univ fun k : Fin 3 => dutyTok EX (cell c k) 0 () := by
  unfold dutySet; rw [bigSep_map, bigSep_univ_prod]; rfl

/-! ## Dealing the ghost state -/

/-- The tokens of the duties on device `c`'s own cells. -/
def toks (c : Dev nD) : sProp 𝕄 :=
  iprop(dutyTok EX (cell c 0) 0 () ∗ dutyTok EX (cell c 1) 0 () ∗ dutyTok EX (cell c 2) 0 ())

/-- What device `c` is dealt: its cells' states, positions and marks, and their duties' tokens. -/
def deal (c : Dev nD) : sProp 𝕄 :=
  iprop((bigSep Finset.univ fun k : Fin 3 => roundState EX (plan m ρ) (cell c k) 0)
    ∗ (bigSep Finset.univ fun k : Fin 3 => iprop(atPos EX (cell c k) 0 ∅ 0 ∗ reached EX (cell c k) 0)) ∗ toks c)

/-- The launch's ghost state makes every device's deal. -/
theorem deal_all : BI.own (EX (initOf cellSet dutySet)) ⊢ (|==> bigSep Finset.univ (deal m ρ) : sProp 𝕄) := by
  iintro H
  imod (Rounds.fund EX (plan m ρ) cellSet dutySet) $$ H with ⟨Hst, Hr, Hat, Htok⟩
  imodintro
  ihave Hst := (Entails.of_eq (bigSep_cellSet fun g => roundState EX (plan m ρ) g 0)) $$ Hst
  ihave Hat := (Entails.of_eq (bigSep_cellSet fun g => atPos EX g 0 ∅ 0)) $$ Hat
  ihave Hr := (Entails.of_eq (bigSep_cellSet fun g => reached EX g 0)) $$ Hr
  ihave Htok := (Entails.of_eq ((bigSep_dutySet (F := F)).trans
    (bigSep_congr fun c _ => show _ = toks c by unfold toks; rw [bigSep_three]))) $$ Htok
  unfold deal; simp only [bigSep_sep']
  isplitl [Hst]; · iexact Hst
  isplitl [Hat Hr]
  · isplitl [Hat] <;> iassumption
  iexact Htok

/-- The send and receive counters are the launch's own. -/
theorem ownSems_eq (c : Dev nD) :
    (Pipeline.ownSems0 (Ix := Unit) (Name := ℕ) (U := UU) (Lvl := ℕ) (Val := Elt F) (τ := τ) ownSem c : sProp 𝕄)
      = iprop(semVal (cell c 1) 0 ∗ semVal (cell c 2) 0) := by
  rw [Pipeline.ownSems0_eq_of_list c ownSem [0, 1] (by decide) (by decide)]; rfl

/-- The barrier's counter is the one that is not. -/
theorem unscopedSems_eq (c : Dev nD) : (unscopedSems0 c : sProp 𝕄) = semVal (cell c 0) 0 := by
  unfold unscopedSems0; rw [bigSep_eq_bigSepL_of_eq [SemLoc.reg barS] (by decide) (by decide)]; rfl

/-- A device's three counters at zero, with its cells' states, become its three cells' invariants. -/
theorem alloc (c : Dev nD) :
    iprop(Pipeline.ownSems0 (Ix := Unit) (Name := ℕ) (U := UU) (Lvl := ℕ) (Val := Elt F) (τ := τ) ownSem c ∗ unscopedSems0 c ∗ deal m ρ c)
      ⊢ |={Set.univ}=> iprop((bigSep Finset.univ fun k : Fin 3 => iprop(∃ κ : ℕ, cellInv EX (plan m ρ) κ (cell c k)))
          ∗ (bigSep Finset.univ fun k : Fin 3 => iprop(atPos EX (cell c k) 0 ∅ 0 ∗ reached EX (cell c k) 0)) ∗ toks c) := by
  have hinv : iprop((bigSep Finset.univ fun k : Fin 3 => semVal (cell c k) 0)
      ∗ bigSep Finset.univ fun k : Fin 3 => roundState EX (plan m ρ) (cell c k) 0)
      ⊢ (|={Set.univ}=> bigSep Finset.univ fun k : Fin 3 => iprop(∃ κ : ℕ, cellInv EX (plan m ρ) κ (cell c k)) : sProp 𝕄) := by
    rw [← bigSep_sep']
    exact (bigSep_mono fun k _ => (Rounds.body_intro EX (plan m ρ) (cell c k)).trans inv_alloc).trans (bigSep_fupd _ _)
  rw [bigSep_three (fun k => (semVal (cell c k) 0 : sProp 𝕄))] at hinv
  rw [ownSems_eq, unscopedSems_eq]
  unfold deal
  iintro ⟨⟨Hs, Hr⟩, Hb, Hst, Hpos⟩
  imod hinv $$ [Hs Hr Hb Hst] with Hinv
  · isplitl [Hs Hr Hb]
    · isplitl [Hb]; · iexact Hb
      isplitl [Hs] <;> iassumption
    · iexact Hst
  imodintro
  isplitl [Hinv] <;> iassumption

/-- What every device may know: each cell's invariant, and that it is at its start. -/
def known (K : Dev nD × Fin 3 → ℕ) : sProp 𝕄 :=
  iprop((bigSep Finset.univ fun ck : Dev nD × Fin 3 => cellInv EX (plan m ρ) (K ck) (cell ck.1 ck.2))
    ∗ bigSep Finset.univ fun ck : Dev nD × Fin 3 => reached EX (cell ck.1 ck.2) 0)

instance known_persistent (K : Dev nD × Fin 3 → ℕ) : BI.Persistent (known m ρ K) := by unfold known; infer_instance

/-- One cell's invariant out of them all. -/
theorem known_inv (K : Dev nD × Fin 3 → ℕ) (c : Dev nD) (k : Fin 3) :
    known m ρ K ⊢ cellInv EX (plan m ρ) (K (c, k)) (cell c k) := by
  unfold known
  exact Laws.sep_elim_left.trans (bigSep_elim (Finset.mem_univ (c, k)))

/-- One cell's mark out of them all. -/
theorem known_mark (K : Dev nD × Fin 3 → ℕ) (c : Dev nD) (k : Fin 3) : known m ρ K ⊢ reached EX (cell c k) 0 := by
  unfold known
  exact Laws.sep_elim_right.trans (bigSep_elim (Finset.mem_univ (c, k)))

/-- What is known, with a device's positions and the tokens of the duties it pays, is what it starts from. -/
theorem ghost_of_known (K : Dev nD × Fin 3 → ℕ) (c : Dev nD) :
    iprop(known m ρ K ∗ poss c ∗ dues c) ⊢ iprop(∃ K, ghost m ρ K c) := by
  unfold ghost invs marks
  iintro ⟨#H, Hpos, Hdue⟩
  iexists K
  isplitr
  · isplitr; · iapply (known_inv m ρ K c 0); iexact H
    isplitr; · iapply (known_inv m ρ K c 1); iexact H
    isplitr; · iapply (known_inv m ρ K c 2); iexact H
    isplitr; · iapply (known_inv m ρ K (mate c) 0); iexact H
    iapply (known_inv m ρ K (mate c) 2); iexact H
  isplitr
  · isplitr; · iapply (known_mark m ρ K (mate c) 0); iexact H
    isplitr; · iapply (known_mark m ρ K (mate c) 2); iexact H
    isplitr; · iapply (known_mark m ρ K c 1); iexact H
    iapply (known_mark m ρ K c 2); iexact H
  isplitl [Hpos] <;> iassumption

/-- Mates swap their barrier and receive duties' tokens; each keeps its send duty's. -/
theorem toks_swap : (bigSep Finset.univ fun c : Dev nD => (toks c : sProp 𝕄)) ⊢ bigSep Finset.univ fun c : Dev nD => dues c := by
  unfold toks dues
  simp only [bigSep_sep']
  rw [bigSep_univ_equiv pairing (fun c : Dev nD => (dutyTok EX (cell c 0) 0 () : sProp 𝕄)),
    bigSep_univ_equiv pairing (fun c : Dev nD => (dutyTok EX (cell c 2) 0 () : sProp 𝕄))]
  iintro ⟨Hb, Hs, Hr⟩
  isplitl [Hb]; · iexact Hb
  isplitl [Hr]; · iexact Hr
  iexact Hs

/-- Something known may be used at every index. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- All devices' invariants, positions and tokens, dealt out again: each device gets what it starts from. -/
theorem redeal :
    (bigSep Finset.univ fun c : Dev nD => iprop((bigSep Finset.univ fun k : Fin 3 => iprop(∃ κ : ℕ, cellInv EX (plan m ρ) κ (cell c k)))
          ∗ (bigSep Finset.univ fun k : Fin 3 => iprop(atPos EX (cell c k) 0 ∅ 0 ∗ reached EX (cell c k) 0)) ∗ toks c) : sProp 𝕄)
      ⊢ bigSep Finset.univ fun c : Dev nD => iprop(∃ K, ghost m ρ K c) := by
  have hpos : (bigSep Finset.univ fun c : Dev nD => bigSep Finset.univ fun k : Fin 3 => (atPos EX (cell c k) 0 ∅ 0 : sProp 𝕄))
      = bigSep Finset.univ fun c : Dev nD => poss c := bigSep_congr fun c _ => by unfold poss; rw [bigSep_three]
  rw [bigSep_sep', bigSep_sep',
    ← bigSep_univ_prod (fun ck : Dev nD × Fin 3 => iprop(∃ κ : ℕ, cellInv EX (plan m ρ) κ (cell ck.1 ck.2))),
    bigSep_congr (s := Finset.univ) (fun (c : Dev nD) _ => bigSep_sep' Finset.univ
      (fun k : Fin 3 => (atPos EX (cell c k) 0 ∅ 0 : sProp 𝕄)) (fun k => reached EX (cell c k) 0)),
    bigSep_sep', ← bigSep_univ_prod (fun ck : Dev nD × Fin 3 => (reached EX (cell ck.1 ck.2) 0 : sProp 𝕄)), hpos]
  iintro ⟨HI, ⟨Hpos, #HR⟩, Htok⟩
  ihave HK := (BI.bigSep_exists_pi Finset.univ
    (fun (ck : Dev nD × Fin 3) (κ : ℕ) => (cellInv EX (plan m ρ) κ (cell ck.1 ck.2) : sProp 𝕄))) $$ HI
  icases HK with ⟨%K, #HI⟩
  ihave Hdue := (toks_swap (F := F)) $$ Htok
  iapply (bigSep_knowing (R := known m ρ K) (Φ := fun c => iprop(poss c ∗ dues c)) fun c _ => ghost_of_known m ρ K c)
  isplitr
  · unfold known; isplitl; · iexact HI
    iexact HR
  · rw [bigSep_sep']
    isplitl [Hpos] <;> iassumption

/-- The launch's one step over all devices: from their counters and deals to what each starts from. -/
theorem launch_step :
    (bigSep Finset.univ fun c => iprop(Pipeline.ownSems0 (Ix := Unit) (Name := ℕ) (U := UU) (Lvl := ℕ) (Val := Elt F) (τ := τ) ownSem c
        ∗ unscopedSems0 c ∗ deal m ρ c) : sProp 𝕄)
      ⊢ |={Set.univ}=> bigSep Finset.univ fun c : Dev nD => iprop(∃ K, ghost m ρ K c) :=
  ((bigSep_mono fun c _ => alloc m ρ c).trans (bigSep_fupd _ _)).trans (BI.fupd_mono (redeal m ρ))

/-! ## The credits at launch -/

/-- The mate of one device is another just when the other's mate is the one. -/
theorem cell_mate_iff (c d : Dev nD) (k : Fin 3) : cell c k = cell (mate d) k ↔ d = mate c := by
  constructor
  · intro h
    have h1 : c = mate d := congrArg (fun g : GSem nD τ sig => g.1.1) h
    rw [h1, mate_mate]
  · rintro rfl
    rw [mate_mate]

/-- What device `d` owes device `c`'s barrier cell: one unit if it is the mate. -/
theorem owed_bar (d c : Dev nD) : owed₀ d (cell c 0) () = if d = mate c then 1 else 0 := by
  unfold owed₀
  rw [Pi.add_apply, Finsupp.add_apply,
    tallyAt_ne_cell (fun h => semAt_ne (j := 0) (k := 2) (by decide) (congrArg Prod.snd h)),
    tallyAt_apply, Finsupp.zero_apply, Nat.zero_add]
  exact if_congr (by rw [cell_mate_iff]; exact and_iff_left rfl) rfl rfl

/-- What device `d` owes device `c`'s receive cell: the copy's credit if it is the mate. -/
theorem owed_recv (d c : Dev nD) : owed₀ d (cell c 2) () = if d = mate c then N else 0 := by
  unfold owed₀
  rw [Pi.add_apply, Finsupp.add_apply,
    tallyAt_ne_cell (g := cell (mate d) 0) (fun h => semAt_ne (j := 2) (k := 0) (by decide) (congrArg Prod.snd h)),
    tallyAt_apply, Finsupp.zero_apply, Nat.add_zero]
  exact if_congr (by rw [cell_mate_iff]; exact and_iff_left rfl) rfl rfl

/-- In all, a barrier cell is owed one unit. -/
theorem credit_bar (c : Dev nD) :
    tallyOn (cell c 0) (launchCredit (Pipeline.owing owed₀) 0 (cell c 0)) = (tallyAt (cell c 0) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (mate c) fun _ => 1, if_pos (Finset.mem_univ _)]

/-- In all, a receive cell is owed one copy's credit. -/
theorem credit_recv (c : Dev nD) :
    tallyOn (cell c 2) (launchCredit (Pipeline.owing owed₀) 0 (cell c 2)) = (tallyAt (cell c 2) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (mate c) fun _ => N, if_pos (Finset.mem_univ _)]

/-- A device's launch credits hold those it waits with. -/
theorem purse_intro (c : Dev nD) : (Pipeline.launchCred owed₀ c : sProp 𝕄) ⊢ purse c := by
  unfold Pipeline.launchCred purse
  rw [bigSep_univ_at _ (semAt 0), credit_bar]
  refine sep_mono_right ?_
  rw [← credit_recv]
  exact bigSep_elim (Φ := fun sm : SemLoc sig => (cred (tallyOn ((c : Thread nD τ), sm) (launchCredit (Pipeline.owing owed₀) 0 ((c : Thread nD τ), sm))) : sProp 𝕄))
    (Finset.mem_erase.mpr ⟨semAt_ne (j := 2) (k := 0) (by decide), Finset.mem_univ (semAt 2)⟩)

/-! ## The launch's side conditions -/

/-- Every window is held whole. -/
theorem share_full (c : Dev nD) (w : Fin cfg0.W) : (dats m ρ 0 c).share w = fullShare := by
  unfold Dat.share; split <;> rfl

/-- What a device starts from, out of what the launch hands it. -/
theorem before_intro (c : Dev nD) :
    iprop(Pipeline.unscopedRestP Pipeline.Prefetch.none cfg0.spec c (fun b => m ((c : Thread nD τ).loc b)) ∗ levAts lvls lvl
        ∗ Pipeline.launchCred owed₀ c ∗ prngReg c (ρ c) ∗ (∃ K, ghost m ρ K c))
      ⊢ |={Set.univ}=> iprop(before m ρ c ∗ emp) := by
  iintro ⟨-, Hlev, Hcr, -, HG⟩
  ihave Hc := (purse_intro (F := F) c) $$ Hcr
  imodintro
  unfold before
  isplitl
  · isplitl [HG]; · iexact HG
    isplitl [Hc] <;> iassumption
  · iempintro

/-- The kernel has no scratch buffer, so that is all the pipeline starts from. -/
theorem phi_first (c : Dev nD) :
    iprop(before m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl]
  iintro ⟨Hs, -⟩
  iexact Hs

/-- What the body ends with goes back to the launch. -/
theorem phi_last (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = done c from rfl, scopedRest0_eq, ownSems_eq, unscopedSems_eq]
  unfold done
  iintro ⟨Hb, Hs, Hr⟩
  isplitl [Hb]; · iexact Hb
  isplitl [Hs Hr]
  · isplitl [Hs] <;> iassumption
  iempintro

/-- A device may wait for its staging copies at every point. -/
theorem stage_waits (c : Dev nD) : (levAts lvls lvl : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array `w` holds at the end. -/
def finalA (c : Dev nD) (w : Fin cfg0.W) : Buf (Elt F) ((cfg0.win w).arr.view.loc (c : Thread nD τ)) := (dats m ρ 0 c).arrAt w cfg0.N

set_option maxRecDepth 8000 in
/-- The sixteen devices' run, from any memory with every counter at zero, for any float values: it ends, with
    every device's arrays at the computed contents and every counter at zero. -/
theorem run_arrays : θ_run defs (onTc (τ := τ) (main (F := F))) (start₀ m ρ) (fun r =>
    (∀ c : Dev nD, ∀ w : Fin cfg0.W, r.2.mem ((cfg0.win w).arr.view.loc (c : Thread nD τ)) = finalA m ρ c w)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := owed₀) (howed₀ := fun _ => rfl) (howedN := fun _ => rfl)
    (L := lvls) (lv := lvl) (hL := lvls_other) (hwaits := stage_waits m ρ)
    (G := deal m ρ) (G' := fun c => iprop(∃ K, ghost m ρ K c)) (u₀ := ghost₀)
    (hu₀ := by
      unfold ghost₀
      iintro Hu
      ihave H := (ownU_pair _ _) $$ Hu
      icases H with ⟨HP, HX⟩
      imod (deal_all m ρ) $$ HX with HG
      imodintro
      isplitl [HP] <;> iassumption)
    (hglob := launch_step m ρ)
    (hA := fun _ _ => rfl) (hpf := fun _ k => k.elim0)
    (X := before m ρ) (Y := fun c => unscopedSems0 c) (Z := fun _ => iprop(emp))
    (hX := before_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it was. -/
theorem final_arg (c : Dev nD) : finalA m ρ c (0 : Fin 2) = m ((c : Thread nD τ).loc main_arg0) :=
  (dats (F := F) m ρ 0 c).arrAt_in (0 : Fin 2) rfl _

/-- The result array ends at the staged result. -/
theorem final_result (c : Dev nD) : finalA m ρ c (1 : Fin 2) = gathered m ρ c :=
  (dats m ρ 0 c).arrAt_eq_of_after_last (1 : Fin 2) (⟨0, by decide⟩ : Fin cfg0.N) (by decide +kernel) (gathered m ρ c) fun _ => rfl

/-- Each device's run, read at its two arrays: the result gathered, the argument unchanged, every counter at zero. -/
theorem run : θ_run defs (onTc (τ := τ) (main (F := F))) ⟨m, fun _ => 0, ρ⟩ (fun r =>
    (∀ c : Dev nD, r.2.mem ((c.tc : Thread nD τ).loc main_v1) = gathered m ρ c
      ∧ r.2.mem ((c.tc : Thread nD τ).loc main_arg0) = m ((c.tc : Thread nD τ).loc main_arg0))
      ∧ r.2.sem = fun _ => 0) :=
  (θ_run defs _ _).mono (fun _ h => ⟨fun c => ⟨(h.1 c (1 : Fin 2)).trans (final_result m ρ c), (h.1 c (0 : Fin 2)).trans (final_arg m ρ c)⟩, h.2⟩)
    (run_arrays m ρ)

end Cert.KernelIdeal.Gather

end
-- ==== Proof.KernelIdeal.Whole.lean ====
/-
# The gathered result is the whole array

If each device's argument is its block of one array of 512 rows, every device's result is that array.
-/
module

public import proofs.«01_k».proof.Proof.KernelIdeal.Run

@[expose] public section

noncomputable section

namespace Cert.KernelIdeal.Gather

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- A device's staged argument is its argument array, whole. -/
theorem own_apply (c : Dev nD) (j : S256x256.Idx) : own m ρ c j = m ((c.tc : Thread nD τ).loc main_arg0) j := by
  have h : (win0_0.blk (0 : Fin 1)).view.emb j = j := by
    funext a
    refine Fin.ext ?_
    match a with
    | ⟨0, _⟩ => exact (congrArg (· + _) (Nat.zero_mul _)).trans ((Nat.zero_add _).trans (Nat.one_mul _))
    | ⟨1, _⟩ => exact (congrArg (· + _) (Nat.zero_mul _)).trans ((Nat.zero_add _).trans (Nat.one_mul _))
  exact congrArg (m ((c.tc : Thread nD τ).loc main_arg0)) h

/-- The block coordinate of device `c` along the rows is its `y` coordinate. -/
theorem block_row (c : Dev nD) : ((Layout.meshBlock [2, 2, 4] ![[1], []] c) (0 : Fin 2)).val = yOf c := by
  show (c.val / 4) % 2 * 1 + 0 = c.val / 4 % 2
  omega

/-- Row `i % 256` of the block whose number is `i / 256` is row `i` of the array. -/
theorem idx_within (c : Dev nD) (h : Layout.TilesN ⟨2, ![256, 256]⟩ ⟨2, ![512, 256]⟩ fun b => Layout.cutSize [2, 2, 4] ((![[1], []] : Fin 2 → List Nat) b))
    (i : S512x256.Idx) (hi : (i (0 : Fin 2)).val / 256 = yOf c) :
    h.idx (Layout.meshBlock [2, 2, 4] ![[1], []] c) (within i) = i := by
  funext a
  refine Fin.ext ?_
  match a with
  | ⟨0, _⟩ =>
    show ((Layout.meshBlock [2, 2, 4] ![[1], []] c) (0 : Fin 2)).val * 256 + (i (0 : Fin 2)).val % 256 = (i (0 : Fin 2)).val
    rw [block_row, ← hi]
    omega
  | ⟨1, _⟩ =>
    show 0 * 256 + (i (1 : Fin 2)).val = (i (1 : Fin 2)).val
    omega

/-- If every device's argument is its block of one array `v`, every device's gathered result is `v`. -/
theorem gathered_whole (v : S512x256.Idx → Elt F .f32)
    (hv : ∀ c : Dev nD, m ((c.tc : Thread nD τ).loc main_arg0)
      = Layout.blockN ⟨2, ![256, 256]⟩ ⟨2, ![512, 256]⟩ (Layout.meshBlock [2, 2, 4] ![[1], []] c) v)
    (c : Dev nD) : gathered m ρ c = v := by
  funext i
  unfold gathered
  split
  · next hi =>
    rw [own_apply, hv]
    exact congrArg v (idx_within c _ i hi)
  · next hi =>
    have h : (i (0 : Fin 2)).val / 256 = yOf (mate c) := by
      rw [yOf_mate]
      have hy := yOf_lt c
      have hr : (i (0 : Fin 2)).val < 512 := (i (0 : Fin 2)).isLt
      omega
    rw [own_apply, hv]
    exact congrArg v (idx_within (mate c) _ i h)

end Cert.KernelIdeal.Gather

end
-- ==== Proof.lean ====
/-
# The claims

Every device's run ends with its result gathered, its argument unchanged and every counter at zero
(`Gather.run`). The reference returns its argument, which its run leaves as it was.
-/
module

public import proofs.«01_k».proof.Defs
public import proofs.«01_k».proof.Proof.Kernel.Run
public import proofs.«01_k».proof.Proof.KernelIdeal.Run
public import proofs.«01_k».proof.Proof.KernelIdeal.Whole
public import proofs.«01_k».proof.Proof.Gen.Kernel
public import proofs.«01_k».proof.Proof.Gen.KernelIdeal
public import proofs.«01_k».proof.Proof.Gen.ReferenceIdeal
public import Idealize.ShloMosaic.Lib.StableHlo.Run
public import Idealize.ShloMosaic.Adequacy
public import Idealize.ShloMosaic.Init

@[expose] public section

noncomputable section

namespace Cert.Proof

open Idealize.ShloMosaic Idealize.SL.Sem

/-- The reference's run, at any float values: it does nothing, so its argument ends as it was and every
    counter at zero. -/
theorem reference_run {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run (Cert.ReferenceIdeal.defs (F := F)) _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => [])
      (fun _ => rfl) (fun _ => trivial) m g)

/-- The kernel runs, its arguments end unchanged and every counter at zero. -/
theorem frame_kernel : Cert.quiescent_Kernel := fun m g _ =>
  (θ_run Cert.Kernel.defs _ _).mono (fun _ h => ⟨fun c => (h.1 c).2, h.2⟩) (Cert.Kernel.Gather.run (F := Bits) m g)

/-- So does its idealization. -/
theorem frame_kernelIdeal : Cert.quiescent_KernelIdeal := fun m g _ =>
  (θ_run Cert.KernelIdeal.defs _ _).mono (fun _ h => ⟨fun c => (h.1 c).2, h.2⟩) (Cert.KernelIdeal.Gather.run (F := Ideal) m g)

/-- So does the reference. -/
theorem frame_referenceIdeal : Cert.quiescent_ReferenceIdeal := fun m g _ => reference_run (F := Ideal) m g

/-- The idealization rewrote no operation. -/
theorem preserves_kernel : Cert.preserves_Kernel_KernelIdeal := trivial

/-- Every device's result is the reference's result, the whole array. -/
theorem algebraic_kernelIdeal : Cert.algebraic_KernelIdeal_ReferenceIdeal := fun m g m' g' _ hblock =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.KernelIdeal.Gather.gathered_whole (F := Ideal) m g _ hblock c), (h.1 c).2⟩)
      (Cert.KernelIdeal.Gather.run (F := Ideal) m g),
    (θ_run Cert.ReferenceIdeal.defs _ _).mono (fun _ h => ⟨h.1 0, h.1 0⟩) (reference_run (F := Ideal) m' g')⟩

/-- All five claims. -/
theorem claim : Cert.Claim :=
  ⟨Cert.Kernel.Gen.facts, Cert.KernelIdeal.Gen.facts, Cert.ReferenceIdeal.Gen.facts,
    frame_kernel, frame_kernelIdeal, frame_referenceIdeal, preserves_kernel, algebraic_kernelIdeal⟩

end Cert.Proof

end
